-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x128 : Shape := ⟨2, ![2048, 128]⟩
abbrev S2048x128x128 : Shape := ⟨3, ![2048, 128, 128]⟩
abbrev S256x128 : Shape := ⟨2, ![256, 128]⟩
abbrev S256x128x128 : Shape := ⟨3, ![256, 128, 128]⟩
abbrev S128x128 : Shape := ⟨2, ![128, 128]⟩
abbrev S1x128x128 : Shape := ⟨3, ![1, 128, 128]⟩
abbrev S256x128x1 : Shape := ⟨3, ![256, 128, 1]⟩

abbrev nBuf : Space → Nat
  | .hbm => 2
  | .vmem => 4
  | .smem => 0
  | _ => 0

abbrev bufTy : (tb : Table) → Fin (tcTables nBuf tb) → BufTy
  | .hbm, ⟨0, _⟩ => ⟨S2048x128, .f32⟩
  | .hbm, ⟨1, _⟩ => ⟨S2048x128x128, .f32⟩
  | .local _ .vmem, ⟨0, _⟩ => ⟨S256x128, .f32⟩
  | .local _ .vmem, ⟨1, _⟩ => ⟨S256x128, .f32⟩
  | .local _ .vmem, ⟨2, _⟩ => ⟨S256x128x128, .f32⟩
  | .local _ .vmem, ⟨3, _⟩ => ⟨S256x128x128, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S2048x128 : Shape := ⟨2, ![2048, 128]⟩
abbrev S128 : Shape := ⟨1, ![128]⟩
abbrev S_ : Shape := ⟨0, ![]⟩
abbrev S2048x128x128 : Shape := ⟨3, ![2048, 128, 128]⟩
abbrev S128x1 : Shape := ⟨2, ![128, 1]⟩
abbrev S128x2 : Shape := ⟨2, ![128, 2]⟩

abbrev nBuf : Space → Nat
  | .hbm => 23
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S128, .i32⟩
  | .hbm, ⟨2, _⟩ => ⟨S128, .i32⟩
  | .hbm, ⟨3, _⟩ => ⟨S_, .f32⟩
  | .hbm, ⟨4, _⟩ => ⟨S2048x128x128, .f32⟩
  | .hbm, ⟨5, _⟩ => ⟨S_, .i32⟩
  | .hbm, ⟨6, _⟩ => ⟨S128, .i32⟩
  | .hbm, ⟨7, _⟩ => ⟨S128, .i1⟩
  | .hbm, ⟨8, _⟩ => ⟨S_, .i32⟩
  | .hbm, ⟨9, _⟩ => ⟨S128, .i32⟩
  | .hbm, ⟨10, _⟩ => ⟨S128, .i32⟩
  | .hbm, ⟨11, _⟩ => ⟨S128, .i32⟩
  | .hbm, ⟨12, _⟩ => ⟨S_, .i32⟩
  | .hbm, ⟨13, _⟩ => ⟨S128, .i32⟩
  | .hbm, ⟨14, _⟩ => ⟨S128, .i1⟩
  | .hbm, ⟨15, _⟩ => ⟨S_, .i32⟩
  | .hbm, ⟨16, _⟩ => ⟨S128, .i32⟩
  | .hbm, ⟨17, _⟩ => ⟨S128, .i32⟩
  | .hbm, ⟨18, _⟩ => ⟨S128, .i32⟩
  | .hbm, ⟨19, _⟩ => ⟨S128x1, .i32⟩
  | .hbm, ⟨20, _⟩ => ⟨S128x1, .i32⟩
  | .hbm, ⟨21, _⟩ => ⟨S128x2, .i32⟩
  | .hbm, ⟨22, _⟩ => ⟨S2048x128x128, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_1 : Ref sig .tc := ⟨.hbm, 12, rfl⟩
abbrev main_v8 : Ref sig .tc := ⟨.hbm, 13, rfl⟩
abbrev main_v9 : Ref sig .tc := ⟨.hbm, 14, rfl⟩
abbrev main_c_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Proof.Spec.lean ====
/-
  What both programs compute: a batch of 2048 diagonal 128 × 128 matrices, one per row of the argument.
-/
module

public import Idealize.ShloMosaic.PureOps
public import Idealize.ShloMosaic.Lib.Pointwise

@[expose] public section

noncomputable section

namespace Cert.Diag

open Idealize.ShloMosaic

/-- The matrices `diag (x b)`: entry `(b, i, j)` is `x (b, i)` where `i = j` and the fill `z` elsewhere. -/
def diag {α : Type} (z : α) (x : (⟨2, ![2048, 128]⟩ : Shape).Idx → α) : (⟨3, ![2048, 128, 128]⟩ : Shape).Idx → α :=
  fun i => if (i 1).val = (i 2).val then x (ix2 (i 0) (i 1)) else z

end Cert.Diag

end
-- ==== Proof.KernelValue.lean ====
/-
  The kernel's result array: what one grid point's body stores, and the whole array after the run.
-/
module

public import proofs.«01_k».proof.Proof.Spec
public import proofs.«01_k».proof.Proof.Gen.KernelIdeal.Value
public import Idealize.ShloMosaic.Lib.Pipeline.ValueKit

@[expose] public section

set_option maxRecDepth 16384

noncomputable section

namespace Cert.Diag

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The fill of the kernel's `where`: the word of `+0.0`. -/
abbrev zero : F .f32 := Scalar.ofBits .f32 0x00000000#32

/-- WHAT ONE BLOCK COMPUTES: of the loaded block `x` of 256 rows the body stores, at `(r, i, j)`, `x (r, i)` where
    `i = j` and zero elsewhere: the two iotas agree there exactly. -/
theorem payload_apply (x : Vec F S256x128 .f32) (r : Fin 256) (i j : Fin 128) :
    k0_pay1 x (ix3 r i j) = if i.val = j.val then x (ix2 r i) else zero := by
  pointwise [k0_pay1]
  have hi := i.isLt
  have hj := j.isLt
  rw [WordCmp.cmpi_eq_ofNat (by omega) (by omega), WordCmp.select_decide]

/-- Both windows move with the grid point along the batch axis and stand still along the others. -/
theorem index_at : ∀ t : Fin cfg0.N, win0_0.index t = ![t.val, 0] ∧ win0_1.index t = ![t.val, 0, 0] :=
  (by decide +kernel : ∀ t : Fin grid0.N, _)

/-- What point `t` stores at index `y` of its block is the diagonal matrices' entry at the place of `y` in the array: the
    block's rows are the argument's rows from `256 t` on, and its matrices are whole. -/
theorem point (c : Dev nD) (t : Fin cfg0.N) (y : S256x128x128.Idx) :
    k0_pay1 (iblk m c 0 t) y = diag zero (m ((c : Thread nD τ).loc main_arg0)) (((cfg0.win 1).blk t).view.emb y) := by
  rw [eq_ix3 y]
  refine (payload_apply _ _ _ _).trans ?_
  unfold diag
  blk_simp [index_at t]
  refine if_congr Iff.rfl ?_ rfl
  blk_ext! [iblk, V, index_at t]

/-- THE WHOLE ARRAY after the run: every element lies in the block of one grid point, which wrote it. -/
theorem final (c : Dev nD) : (dats m 0 c).arrAt 1 cfg0.N = diag zero (m ((c : Thread nD τ).loc main_arg0)) := by
  refine (dats m 0 c).arrAt_eq_of_covers 1 _ (by decide +kernel) fun t _ y => ?_
  blk_simp
  rw [after0_1]; frame_out
  exact point m c t y

/-- The kernel's run: the result array holds the diagonal matrices of the argument's rows, which is unchanged. -/
theorem kernel_run : θ_run defs (onTc (τ := τ) (main (F := F))) ⟨m, fun _ => 0, ρ⟩ fun r => ∀ c : Dev nD,
      r.2.mem ((c : Thread nD τ).loc main_v0) = diag zero (m ((c : Thread nD τ).loc main_arg0))
      ∧ r.2.mem ((c : Thread nD τ).loc main_arg0) = m ((c : Thread nD τ).loc main_arg0) :=
  (θ_run defs _ _).mono (fun _ h c => ⟨(h c).1.trans (final m c), (h c).2⟩) (Cert.KernelIdeal.Value.run_blocks m ρ)

end Cert.Diag

end
-- ==== Proof.ReferenceValue.lean ====
/-
  The reference's result array: its scatter sets entry `(b, j, j)` to `x (b, j)` in an array of zeros.
-/
module

public import proofs.«01_k».proof.Proof.Spec
public import proofs.«01_k».proof.Proof.Gen.ReferenceIdeal.Run
public import Idealize.ShloMosaic.Lib.Routing.OpsSet
public import Idealize.ShloMosaic.Lib.Routing.OpsPair

@[expose] public section

set_option maxRecDepth 16384

noncomputable section

namespace Cert.Diag

open Cert.ReferenceIdeal Cert.ReferenceIdeal.Gen Idealize.ShloMosaic Idealize.ShloMosaic.TcCoe Idealize.SL.Sem

/-- The reference's scatter: each update `(b, j)` is one element, its two index words give the matrix entry. -/
abbrev dims : ScatterDims S2048x128x128 S128x2 S2048x128 := scatter_S2048x128x128_S128x2_S2048x128_0_12_12_1

/-- The batch axis is the scatter's window axis: nothing is added to the update's own coordinate there. -/
theorem start_batch (idx : IVec S128x2 32) (b : Fin 2048) (k : Fin 128) : dims.start (ix2 b k) idx 0 = 0 := by
  unfold ScatterDims.start
  exact dif_neg (by decide)

/-- Update `(b, k)` starts, on matrix axis `q + 1`, at index word `(k, q)`, read signed. -/
theorem start_row (idx : IVec S128x2 32) (b : Fin 2048) (k : Fin 128) : dims.start (ix2 b k) idx 1 = (idx (ix2 k 0)).toInt := by
  unfold ScatterDims.start
  rw [dif_pos (by decide)]
  refine congrArg (fun v => (idx v).toInt) (funext fun a => ?_)
  match a with
  | ⟨0, _⟩ => rfl
  | ⟨1, _⟩ => rfl

theorem start_col (idx : IVec S128x2 32) (b : Fin 2048) (k : Fin 128) : dims.start (ix2 b k) idx 2 = (idx (ix2 k 1)).toInt := by
  unfold ScatterDims.start
  rw [dif_pos (by decide)]
  refine congrArg (fun v => (idx v).toInt) (funext fun a => ?_)
  match a with
  | ⟨0, _⟩ => rfl
  | ⟨1, _⟩ => rfl

/-- The window coordinate of update `(b, k)`: `b` on the batch axis, -/
theorem window_batch (b : Fin 2048) (k : Fin 128) : dims.window (ix2 b k) 0 = b.val := rfl
/-- and zero on the matrix axes, which are inserted ones. -/
theorem window_row (b : Fin 2048) (k : Fin 128) : dims.window (ix2 b k) 1 = 0 := rfl
theorem window_col (b : Fin 2048) (k : Fin 128) : dims.window (ix2 b k) 2 = 0 := rfl

/-- WHERE AN UPDATE LANDS: update `(b, k)` at the entry of matrix `b` that its two index words name. -/
theorem lands (idx : IVec S128x2 32) (b : Fin 2048) (k : Fin 128) (ι : S2048x128x128.Idx) :
    dims.resultIdx? (ix2 b k) idx = some ι
      ↔ b.val = (ι 0).val ∧ (idx (ix2 k 0)).toInt = (ι 1).val ∧ (idx (ix2 k 1)).toInt = (ι 2).val := by
  rw [Routing.resultIdx?_eq_some]
  constructor
  · intro h
    have h0 := h 0
    have h1 := h 1
    have h2 := h 2
    rw [start_batch, window_batch] at h0
    rw [start_row, window_row] at h1
    rw [start_col, window_col] at h2
    exact ⟨by omega, by omega, by omega⟩
  · rintro ⟨h0, h1, h2⟩ a
    match a with
    | ⟨0, _⟩ => exact (congrArg₂ (· + ·) (start_batch idx b k) (congrArg Nat.cast (window_batch b k))).trans (by simpa using h0)
    | ⟨1, _⟩ => exact (congrArg₂ (· + ·) (start_row idx b k) (congrArg Nat.cast (window_row b k))).trans (by simpa using h1)
    | ⟨2, _⟩ => exact (congrArg₂ (· + ·) (start_col idx b k) (congrArg Nat.cast (window_col b k))).trans (by simpa using h2)

/-- The same where both index words of every `k` are `k` itself: update `(b, k)` lands at entry `(k, k)` of matrix `b`. -/
theorem lands_diag (idx : IVec S128x2 32) (hidx : ∀ (k : Fin 128) (q : Fin 2), (idx (ix2 k q)).toInt = k.val)
    (b : Fin 2048) (k : Fin 128) (ι : S2048x128x128.Idx) :
    dims.resultIdx? (ix2 b k) idx = some ι ↔ b.val = (ι 0).val ∧ k.val = (ι 1).val ∧ k.val = (ι 2).val := by
  rw [lands, hidx, hidx]
  omega

/-- THE SCATTER: where both index words of every `k` are `k` itself, setting into an array of the constant `z` gives the
    diagonal matrices: no two updates meet, and an entry off the diagonal is hit by none. -/
theorem scatter_eq_diag {α : Type} (z : α) (x0 : S2048x128x128.Idx → α) (h0 : ∀ ι, x0 ι = z) (idx : IVec S128x2 32)
    (hidx : ∀ (k : Fin 128) (q : Fin 2), (idx (ix2 k q)).toInt = k.val) (x : S2048x128.Idx → α) :
    Host.scatter dims (fun _ b => b) x0 idx x = diag z x := by
  funext ι
  unfold diag
  have hl : ∀ k : S2048x128.Idx, dims.resultIdx? k idx = some ι
      ↔ (k 0).val = (ι 0).val ∧ (k 1).val = (ι 1).val ∧ (k 1).val = (ι 2).val := fun k =>
    (iff_of_eq (congrArg (dims.resultIdx? · idx = some ι) (eq_ix2 k))).trans (lands_diag idx hidx (k 0) (k 1) ι)
  by_cases e : (ι 1).val = (ι 2).val
  · rw [if_pos e]
    refine Routing.scatter_set_hit dims x0 idx x ι _ (fun k hk => ?_) (ix2 (ι 0) (ι 1)) ((hl _).2 ⟨rfl, rfl, e⟩)
    obtain ⟨p, q, -⟩ := (hl k).1 hk
    rw [eq_ix2 k]
    exact congrArg x (congrArg₂ ix2 (Fin.ext p) (Fin.ext q))
  · rw [if_neg e, Routing.scatter_set_miss dims x0 idx x ι fun k hk => e ?_, h0]
    obtain ⟨-, p, q⟩ := (hl k).1 hk
    exact p.symm.trans q

/-- A word below 128 is not negative: the wrap of a negative index leaves it, and read signed it is the number itself. -/
theorem wrapped (k : Fin 128) (a : BitVec 32) :
    (Scalar.select (IntOp.cmpi .slt (BitVec.ofNat 32 k.val) 0#32) a (BitVec.ofNat 32 k.val)).toInt = k.val := by
  have hk := k.isLt
  have hn : (BitVec.ofNat 32 k.val).toNat = k.val := by rw [BitVec.toNat_ofNat, Nat.mod_eq_of_lt (by omega)]
  rw [Routing.wrap_of_lt _ _ (by omega), BitVec.toInt_eq_toNat_of_lt (by omega), hn]

variable {F : FTy → Type} [FloatOps F]
variable (m : (ℓ : Loc nD τ sig) → Buf (Elt F) ℓ) (ρ : Dev nD → PrngReg)

/-- The reference's run: the result array holds the diagonal matrices of the argument's rows, which is unchanged. -/
theorem reference_run : θ_run defs (onTc (τ := τ) (main (F := F))) ⟨m, fun _ => 0, ρ⟩ fun r => ∀ c : Dev nD,
      r.2.mem ((c.tc : Thread nD τ).loc main_v16) = diag (Scalar.ofBits .f32 0x00000000#32) (m ((c.tc : Thread nD τ).loc main_arg0))
      ∧ r.2.mem ((c.tc : Thread nD τ).loc main_arg0) = m ((c.tc : Thread nD τ).loc main_arg0) := by
  refine (θ_run defs _ _).mono (fun _ h c => ⟨(h c).1.trans ?_, (h c).2⟩) (Cert.ReferenceIdeal.Value.run m ρ)
  refine scatter_eq_diag _ _ (fun ι => ?_) _ (fun k q => ?_) _
  · pointwise
  · fin_cases q <;> (pointwise; exact wrapped k _)

end Cert.Diag

end
-- ==== Proof.lean ====
/-
  The proof of `Cert.Claim`: the three frames are the generated ones and the reference's run, the ideal pass rewrote
  nothing, and the two ideal programs end with the same array, the diagonal matrices `Cert.Diag.diag` of the argument's rows.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.KernelValue
public import proofs.«01_k».proof.Proof.ReferenceValue
public import Idealize.ShloMosaic.Lib.Quiescent
public import Idealize.ShloMosaic.Adequacy
public import Idealize.ShloMosaic.Init

@[expose] public section

noncomputable section

namespace Cert.Proof

open Idealize.ShloMosaic Idealize.SL.Sem

/-- The reference terminates without fault, its argument unchanged and every semaphore counter at zero: it is a list of
    host operations, which touch no counter. -/
theorem reference_frame : Cert.quiescent_ReferenceIdeal (hReferenceIdeal := Cert.ReferenceIdeal.Gen.facts) := by
  intro m g _
  exact θ_run_mono (Cert.Diag.reference_run m g) fun _ h => ⟨fun c => (h c).2, sem_eq_zero_of_no_sems rfl _⟩

/-- Over the extended reals both programs end with the diagonal matrices of the one argument's rows. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => Cert.Diag.diag (Cert.Diag.zero (F := Ideal))
    (m ((c.tc : Thread Cert.KernelIdeal.nD Cert.KernelIdeal.τ).loc Cert.KernelIdeal.main_arg0)), Cert.Diag.kernel_run m g, ?_⟩
  refine (θ_run Cert.ReferenceIdeal.defs _ _).mono (fun _ h c => ⟨(h c).1.trans ?_, (h c).2⟩) (Cert.Diag.reference_run m' g')
  exact congrArg (Cert.Diag.diag (Cert.Diag.zero (F := Ideal))) (hagree c)

theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g, reference_frame, trivial, algebraic⟩

end Cert.Proof

end
